-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.sign_bit.Statement Cert.KernelIdeal.S256x4096 .f32

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x4096 : Shape := ⟨3, ![2, 4096, 4096]⟩
abbrev S_ : Shape := ⟨0, ![]⟩
abbrev S8192x4096 : Shape := ⟨2, ![8192, 4096]⟩
abbrev S1 : Shape := ⟨1, ![1]⟩
abbrev S1x1 : Shape := ⟨2, ![1, 1]⟩
abbrev S256x4096 : Shape := ⟨2, ![256, 4096]⟩

abbrev nBuf : Space → Nat
  | .hbm => 8
  | .vmem => 5
  | .smem => 1
  | _ => 0

abbrev bufTy : (tb : Table) → Fin (tcTables nBuf tb) → BufTy
  | .hbm, ⟨0, _⟩ => ⟨S2x4096x4096, .f32⟩
  | .hbm, ⟨1, _⟩ => ⟨S_, .f32⟩
  | .hbm, ⟨2, _⟩ => ⟨S8192x4096, .f32⟩
  | .hbm, ⟨3, _⟩ => ⟨S1, .f32⟩
  | .hbm, ⟨4, _⟩ => ⟨S8192x4096, .f32⟩
  | .hbm, ⟨5, _⟩ => ⟨S1x1, .f32⟩
  | .hbm, ⟨6, _⟩ => ⟨S2x4096x4096, .f32⟩
  | .hbm, ⟨7, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1, .f32⟩
  | .local _ .smem, ⟨0, _⟩ => ⟨S1, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [BitOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F]
-- ==== ReferenceIdeal.lean ====
abbrev S2x4096x4096 : Shape := ⟨3, ![2, 4096, 4096]⟩
abbrev S_ : Shape := ⟨0, ![]⟩
abbrev S20 : Shape := ⟨1, ![20]⟩
abbrev S33554432 : Shape := ⟨1, ![33554432]⟩
abbrev S1x20 : Shape := ⟨2, ![1, 20]⟩
abbrev S33554432x1 : Shape := ⟨2, ![33554432, 1]⟩
abbrev S33554432x20 : Shape := ⟨2, ![33554432, 20]⟩
abbrev S1 : Shape := ⟨1, ![1]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S_, .f32⟩
  | .hbm, ⟨2, _⟩ => ⟨S20, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .i1⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2x4096x4096, .f32⟩
  | .hbm, ⟨18, _⟩ => ⟨S2x4096x4096, .f32⟩
  | .hbm, ⟨19, _⟩ => ⟨S2x4096x4096, .f32⟩
  | .hbm, ⟨20, _⟩ => ⟨S2x4096x4096, .f32⟩
  | .hbm, ⟨21, _⟩ => ⟨S2x4096x4096, .f32⟩
  | .hbm, ⟨22, _⟩ => ⟨S2x4096x4096, .f32⟩
  | .hbm, ⟨23, _⟩ => ⟨S2x4096x4096, .f32⟩
  | .hbm, ⟨24, _⟩ => ⟨S2x4096x4096, .f32⟩
  | .hbm, ⟨25, _⟩ => ⟨S33554432, .f32⟩
  | .hbm, ⟨26, _⟩ => ⟨S1x20, .f32⟩
  | .hbm, ⟨27, _⟩ => ⟨S33554432x1, .f32⟩
  | .hbm, ⟨28, _⟩ => ⟨S33554432x20, .f32⟩
  | .hbm, ⟨29, _⟩ => ⟨S33554432x20, .f32⟩
  | .hbm, ⟨30, _⟩ => ⟨S33554432x20, .i1⟩
  | .hbm, ⟨31, _⟩ => ⟨S33554432x20, .i32⟩
  | .hbm, ⟨32, _⟩ => ⟨S_, .i32⟩
  | .hbm, ⟨33, _⟩ => ⟨S33554432, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S33554432, .i32⟩
  | .hbm, ⟨38, _⟩ => ⟨S33554432, .i32⟩
  | .hbm, ⟨39, _⟩ => ⟨S_, .i32⟩
  | .hbm, ⟨40, _⟩ => ⟨S33554432, .i32⟩
  | .hbm, ⟨41, _⟩ => ⟨S33554432, .i32⟩
  | .hbm, ⟨42, _⟩ => ⟨S_, .i32⟩
  | .hbm, ⟨43, _⟩ => ⟨S33554432, .i32⟩
  | .hbm, ⟨44, _⟩ => ⟨S33554432, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S33554432, .i32⟩
  | .hbm, ⟨49, _⟩ => ⟨S33554432, .i32⟩
  | .hbm, ⟨50, _⟩ => ⟨S_, .i32⟩
  | .hbm, ⟨51, _⟩ => ⟨S33554432, .i32⟩
  | .hbm, ⟨52, _⟩ => ⟨S33554432, .i32⟩
  | .hbm, ⟨53, _⟩ => ⟨S_, .i32⟩
  | .hbm, ⟨54, _⟩ => ⟨S33554432, .i32⟩
  | .hbm, ⟨55, _⟩ => ⟨S33554432, .i1⟩
  | .hbm, ⟨56, _⟩ => ⟨S_, .i32⟩
  | .hbm, ⟨57, _⟩ => ⟨S33554432, .i32⟩
  | .hbm, ⟨58, _⟩ => ⟨S33554432, .i32⟩
  | .hbm, ⟨59, _⟩ => ⟨S33554432, .i32⟩
  | .hbm, ⟨60, _⟩ => ⟨S33554432x1, .i32⟩
  | .hbm, ⟨61, _⟩ => ⟨S1, .i32⟩
  | .hbm, ⟨62, _⟩ => ⟨S_, .i32⟩
  | .hbm, ⟨63, _⟩ => ⟨S33554432x1, .i32⟩
  | .hbm, ⟨64, _⟩ => ⟨S33554432x1, .i1⟩
  | .hbm, ⟨65, _⟩ => ⟨S1x1, .i32⟩
  | .hbm, ⟨66, _⟩ => ⟨S33554432x1, .i32⟩
  | .hbm, ⟨67, _⟩ => ⟨S33554432x1, .i1⟩
  | .hbm, ⟨68, _⟩ => ⟨S33554432x1, .i1⟩
  | .hbm, ⟨69, _⟩ => ⟨S_, .i1⟩
  | .hbm, ⟨70, _⟩ => ⟨S33554432, .i1⟩
  | .hbm, ⟨71, _⟩ => ⟨S33554432, .f32⟩
  | .hbm, ⟨72, _⟩ => ⟨S_, .f32⟩
  | .hbm, ⟨73, _⟩ => ⟨S33554432, .f32⟩
  | .hbm, ⟨74, _⟩ => ⟨S33554432, .f32⟩
  | .hbm, ⟨75, _⟩ => ⟨S_, .i32⟩
  | .hbm, ⟨76, _⟩ => ⟨S33554432, .i32⟩
  | .hbm, ⟨77, _⟩ => ⟨S33554432, .i1⟩
  | .hbm, ⟨78, _⟩ => ⟨S_, .i32⟩
  | .hbm, ⟨79, _⟩ => ⟨S33554432, .i32⟩
  | .hbm, ⟨80, _⟩ => ⟨S33554432, .i32⟩
  | .hbm, ⟨81, _⟩ => ⟨S33554432, .i32⟩
  | .hbm, ⟨82, _⟩ => ⟨S33554432x1, .i32⟩
  | .hbm, ⟨83, _⟩ => ⟨S1, .i32⟩
  | .hbm, ⟨84, _⟩ => ⟨S_, .i32⟩
  | .hbm, ⟨85, _⟩ => ⟨S33554432x1, .i32⟩
  | .hbm, ⟨86, _⟩ => ⟨S33554432x1, .i1⟩
  | .hbm, ⟨87, _⟩ => ⟨S1x1, .i32⟩
  | .hbm, ⟨88, _⟩ => ⟨S33554432x1, .i32⟩
  | .hbm, ⟨89, _⟩ => ⟨S33554432x1, .i1⟩
  | .hbm, ⟨90, _⟩ => ⟨S33554432x1, .i1⟩
  | .hbm, ⟨91, _⟩ => ⟨S_, .i1⟩
  | .hbm, ⟨92, _⟩ => ⟨S33554432, .i1⟩
  | .hbm, ⟨93, _⟩ => ⟨S33554432, .f32⟩
  | .hbm, ⟨94, _⟩ => ⟨S_, .f32⟩
  | .hbm, ⟨95, _⟩ => ⟨S33554432, .f32⟩
  | .hbm, ⟨96, _⟩ => ⟨S33554432, .f32⟩
  | .hbm, ⟨97, _⟩ => ⟨S33554432, .f32⟩
  | .hbm, ⟨98, _⟩ => ⟨S33554432, .f32⟩
  | .hbm, ⟨99, _⟩ => ⟨S33554432, .i1⟩
  | .hbm, ⟨100, _⟩ => ⟨S33554432, .i32⟩
  | .hbm, ⟨101, _⟩ => ⟨S_, .i32⟩
  | .hbm, ⟨102, _⟩ => ⟨S33554432, .i32⟩
  | .hbm, ⟨103, _⟩ => ⟨S33554432, .i1⟩
  | .hbm, ⟨104, _⟩ => ⟨S_, .i32⟩
  | .hbm, ⟨105, _⟩ => ⟨S33554432, .i32⟩
  | .hbm, ⟨106, _⟩ => ⟨S33554432, .i32⟩
  | .hbm, ⟨107, _⟩ => ⟨S33554432, .i32⟩
  | .hbm, ⟨108, _⟩ => ⟨S33554432x1, .i32⟩
  | .hbm, ⟨109, _⟩ => ⟨S1, .i32⟩
  | .hbm, ⟨110, _⟩ => ⟨S_, .i32⟩
  | .hbm, ⟨111, _⟩ => ⟨S33554432x1, .i32⟩
  | .hbm, ⟨112, _⟩ => ⟨S33554432x1, .i1⟩
  | .hbm, ⟨113, _⟩ => ⟨S1x1, .i32⟩
  | .hbm, ⟨114, _⟩ => ⟨S33554432x1, .i32⟩
  | .hbm, ⟨115, _⟩ => ⟨S33554432x1, .i1⟩
  | .hbm, ⟨116, _⟩ => ⟨S33554432x1, .i1⟩
  | .hbm, ⟨117, _⟩ => ⟨S_, .i1⟩
  | .hbm, ⟨118, _⟩ => ⟨S33554432, .i1⟩
  | .hbm, ⟨119, _⟩ => ⟨S33554432, .f32⟩
  | .hbm, ⟨120, _⟩ => ⟨S_, .f32⟩
  | .hbm, ⟨121, _⟩ => ⟨S33554432, .f32⟩
  | .hbm, ⟨122, _⟩ => ⟨S33554432, .f32⟩
  | .hbm, ⟨123, _⟩ => ⟨S2x4096x4096, .f32⟩
  | .hbm, ⟨124, _⟩ => ⟨S2x4096x4096, .f32⟩
  | .hbm, ⟨125, _⟩ => ⟨S2x4096x4096, .f32⟩
  | .hbm, ⟨126, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_c_1 : Ref sig .tc := ⟨.hbm, 34, rfl⟩
abbrev main_c_2 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_c_4 : Ref sig .tc := ⟨.hbm, 45, rfl⟩
abbrev main_c_5 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v19 : Ref sig .tc := ⟨.hbm, 52, rfl⟩
abbrev main_call4_c : Ref sig .tc := ⟨.hbm, 53, rfl⟩
abbrev main_call4_v0 : Ref sig .tc := ⟨.hbm, 54, rfl⟩
abbrev main_call4_v1 : Ref sig .tc := ⟨.hbm, 55, rfl⟩
abbrev main_call4_c_0 : Ref sig .tc := ⟨.hbm, 56, rfl⟩
abbrev main_call4_v2 : Ref sig .tc := ⟨.hbm, 57, rfl⟩
abbrev main_call4_v3 : Ref sig .tc := ⟨.hbm, 58, rfl⟩
abbrev main_call4_v4 : Ref sig .tc := ⟨.hbm, 59, rfl⟩
abbrev main_call4_v5 : Ref sig .tc := ⟨.hbm, 60, rfl⟩
abbrev main_call4_c_1 : Ref sig .tc := ⟨.hbm, 61, rfl⟩
abbrev main_call4_c_2 : Ref sig .tc := ⟨.hbm, 62, rfl⟩
abbrev main_call4_v6 : Ref sig .tc := ⟨.hbm, 63, rfl⟩
abbrev main_call4_v7 : Ref sig .tc := ⟨.hbm, 64, rfl⟩
abbrev main_call4_v8 : Ref sig .tc := ⟨.hbm, 65, rfl⟩
abbrev main_call4_v9 : Ref sig .tc := ⟨.hbm, 66, rfl⟩
abbrev main_call4_v10 : Ref sig .tc := ⟨.hbm, 67, rfl⟩
abbrev main_call4_v11 : Ref sig .tc := ⟨.hbm, 68, rfl⟩
abbrev main_call4_c_3 : Ref sig .tc := ⟨.hbm, 69, rfl⟩
abbrev main_call4_v12 : Ref sig .tc := ⟨.hbm, 70, rfl⟩
abbrev main_call4_v13 : Ref sig .tc := ⟨.hbm, 71, rfl⟩
abbrev main_call4_cst : Ref sig .tc := ⟨.hbm, 72, rfl⟩
abbrev main_call4_v14 : Ref sig .tc := ⟨.hbm, 73, rfl⟩
abbrev main_v20 : Ref sig .tc := ⟨.hbm, 74, rfl⟩
abbrev main_call5_c : Ref sig .tc := ⟨.hbm, 75, rfl⟩
abbrev main_call5_v0 : Ref sig .tc := ⟨.hbm, 76, rfl⟩
abbrev main_call5_v1 : Ref sig .tc := ⟨.hbm, 77, rfl⟩
abbrev main_call5_c_0 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_call5_v5 : Ref sig .tc := ⟨.hbm, 82, rfl⟩
abbrev main_call5_c_1 : Ref sig .tc := ⟨.hbm, 83, rfl⟩
abbrev main_call5_c_2 : Ref sig .tc := ⟨.hbm, 84, rfl⟩
abbrev main_call5_v6 : Ref sig .tc := ⟨.hbm, 85, rfl⟩
abbrev main_call5_v7 : Ref sig .tc := ⟨.hbm, 86, rfl⟩
abbrev main_call5_v8 : Ref sig .tc := ⟨.hbm, 87, rfl⟩
abbrev main_call5_v9 : Ref sig .tc := ⟨.hbm, 88, rfl⟩
abbrev main_call5_v10 : Ref sig .tc := ⟨.hbm, 89, rfl⟩
abbrev main_call5_v11 : Ref sig .tc := ⟨.hbm, 90, rfl⟩
abbrev main_call5_c_3 : Ref sig .tc := ⟨.hbm, 91, rfl⟩
abbrev main_call5_v12 : Ref sig .tc := ⟨.hbm, 92, rfl⟩
abbrev main_call5_v13 : Ref sig .tc := ⟨.hbm, 93, rfl⟩
abbrev main_call5_cst : Ref sig .tc := ⟨.hbm, 94, rfl⟩
abbrev main_call5_v14 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_call7_c : Ref sig .tc := ⟨.hbm, 101, rfl⟩
abbrev main_call7_v0 : Ref sig .tc := ⟨.hbm, 102, rfl⟩
abbrev main_call7_v1 : Ref sig .tc := ⟨.hbm, 103, rfl⟩
abbrev main_call7_c_0 : Ref sig .tc := ⟨.hbm, 104, rfl⟩
abbrev main_call7_v2 : Ref sig .tc := ⟨.hbm, 105, rfl⟩
abbrev main_call7_v3 : Ref sig .tc := ⟨.hbm, 106, rfl⟩
abbrev main_call7_v4 : Ref sig .tc := ⟨.hbm, 107, rfl⟩
abbrev main_call7_v5 : Ref sig .tc := ⟨.hbm, 108, rfl⟩
abbrev main_call7_c_1 : Ref sig .tc := ⟨.hbm, 109, rfl⟩
abbrev main_call7_c_2 : Ref sig .tc := ⟨.hbm, 110, rfl⟩
abbrev main_call7_v6 : Ref sig .tc := ⟨.hbm, 111, rfl⟩
abbrev main_call7_v7 : Ref sig .tc := ⟨.hbm, 112, rfl⟩
abbrev main_call7_v8 : Ref sig .tc := ⟨.hbm, 113, rfl⟩
abbrev main_call7_v9 : Ref sig .tc := ⟨.hbm, 114, rfl⟩
abbrev main_call7_v10 : Ref sig .tc := ⟨.hbm, 115, rfl⟩
abbrev main_call7_v11 : Ref sig .tc := ⟨.hbm, 116, rfl⟩
abbrev main_call7_c_3 : Ref sig .tc := ⟨.hbm, 117, rfl⟩
abbrev main_call7_v12 : Ref sig .tc := ⟨.hbm, 118, rfl⟩
abbrev main_call7_v13 : Ref sig .tc := ⟨.hbm, 119, rfl⟩
abbrev main_call7_cst : Ref sig .tc := ⟨.hbm, 120, rfl⟩
abbrev main_call7_v14 : Ref sig .tc := ⟨.hbm, 121, rfl⟩
abbrev main_v26 : Ref sig .tc := ⟨.hbm, 122, rfl⟩
abbrev main_v27 : Ref sig .tc := ⟨.hbm, 123, rfl⟩
abbrev main_v28 : Ref sig .tc := ⟨.hbm, 124, rfl⟩
abbrev main_v29 : Ref sig .tc := ⟨.hbm, 125, rfl⟩
abbrev main_v30 : Ref sig .tc := ⟨.hbm, 126, rfl⟩

abbrev nD : Nat := 1
abbrev τ : Topo := Topo.v7x

variable {F : FTy → Type} [FloatOps F]
-- ==== Proof.Levels.lean ====
/- The quantiser over the real numbers. The codebook in units of 1/32 is the twenty numbers `lev`; the reference finds
   the codebook entry nearest to a magnitude by counting the entries below it and comparing the distances to its two
   neighbours (`nearest`), the kernel rounds and adds corrections past five thresholds (`steps`). Here the two are shown
   to be one function of the magnitude. -/
module

public import Idealize.ShloMosaic.Lib.Pointwise

@[expose] public section

noncomputable section

namespace Cert.Quant

/-- The codebook in units of 1/32: 0, 1, …, 14 and then 16, 17, 18, 20, 24. -/
def lev : Fin 20 → ℕ := ![0, 1, 2, 3, 4, 5, 6, 7, 8, 9, 10, 11, 12, 13, 14, 16, 17, 18, 20, 24]

/-- The codebook increases. -/
theorem lev_mono : Monotone lev := by
  intro a b h
  revert a b
  decide

/-- How many codebook entries lie strictly below `T`. -/
def below (T : ℝ) : ℕ := (Finset.univ.filter fun k : Fin 20 => (lev k : ℝ) < T).card

/-- The codebook entry at position `n`, the last one past the end. -/
def entry (n : ℕ) : ℝ := (lev ⟨min n 19, by omega⟩ : ℝ)

/-- The reference's choice: the entry at the insertion point or the one before it, whichever is nearer to `T`, a tie going
    to the smaller. -/
def nearest (T : ℝ) : ℝ :=
  if entry (below T) - T < T - entry (below T - 1) then entry (below T) else entry (below T - 1)

/-- The kernel's choice: `T` rounded to an integer with ties downwards and held at 14, then moved up past each of the
    thresholds 15, 16.5, 17.5, 19 and 22. -/
def steps (T : ℝ) : ℝ :=
  min ((⌈T + 1 / 2⌉ : ℝ) - 1) 14 + (if 15 < T then 2 else 0) + (if 33 / 2 < T then 1 else 0)
    + (if 35 / 2 < T then 1 else 0) + (if 19 < T then 2 else 0) + (if 22 < T then 4 else 0)

/-- The entries below `T` are the first `below T` of them. -/
theorem lev_lt_iff (T : ℝ) (k : Fin 20) : (lev k : ℝ) < T ↔ k.val < below T := by
  unfold below
  constructor
  · intro h
    have hs : Finset.Iic k ⊆ Finset.univ.filter fun k : Fin 20 => (lev k : ℝ) < T := fun j hj => by
      rw [Finset.mem_filter]
      exact ⟨Finset.mem_univ _, lt_of_le_of_lt (Nat.cast_le.mpr (lev_mono (Finset.mem_Iic.mp hj))) h⟩
    have := Finset.card_le_card hs
    rw [Fin.card_Iic] at this
    omega
  · intro h
    by_contra hn
    have hs : (Finset.univ.filter fun k : Fin 20 => (lev k : ℝ) < T) ⊆ Finset.Iio k := fun j hj => by
      rw [Finset.mem_Iio]
      by_contra hjk
      exact hn (lt_of_le_of_lt (Nat.cast_le.mpr (lev_mono (not_lt.mp hjk))) (Finset.mem_filter.mp hj).2)
    have := Finset.card_le_card hs
    rw [Fin.card_Iio] at this
    omega

/-- There are twenty entries. -/
theorem below_le (T : ℝ) : below T ≤ 20 := (Finset.card_le_univ _).trans (by simp)

/-- The entry before the insertion point is below `T`. -/
theorem entry_pred_lt {T : ℝ} (h : 0 < below T) : entry (below T - 1) < T := by
  have hle := below_le T
  refine (lev_lt_iff T _).mpr ?_
  show min (below T - 1) 19 < below T
  omega

/-- The entry at the insertion point, if there is one, is not below `T`. -/
theorem le_entry {T : ℝ} (h : below T < 20) : T ≤ entry (below T) := by
  refine not_lt.mp fun hl => ?_
  have := (lev_lt_iff T _).mp hl
  have : min (below T) 19 < below T := this
  omega

/-- Up to 14 the codebook is the integers. -/
theorem entry_small {n : ℕ} (h : n ≤ 14) : entry n = n := by
  have key : ∀ k : Fin 20, k.val ≤ 14 → lev k = k.val := by decide
  have e := key ⟨min n 19, by omega⟩ (by show min n 19 ≤ 14; omega)
  unfold entry
  rw [e]
  show ((min n 19 : ℕ) : ℝ) = n
  rw [min_eq_left (by omega)]

/-- The five entries past 14. -/
theorem entry_large : entry 15 = 16 ∧ entry 16 = 17 ∧ entry 17 = 18 ∧ entry 18 = 20 ∧ entry 19 = 24 ∧ entry 20 = 24 := by
  refine ⟨?_, ?_, ?_, ?_, ?_, ?_⟩ <;> unfold entry <;> norm_num [lev]

/-- Up to 14 the kernel's choice is the rounded value alone. -/
theorem steps_small {T : ℝ} (h : T ≤ 14) : steps T = (⌈T + 1 / 2⌉ : ℝ) - 1 := by
  have hc : (⌈T + 1 / 2⌉ : ℝ) ≤ 15 := by
    have : ⌈T + 1 / 2⌉ ≤ 15 := Int.ceil_le.mpr (by push_cast; linarith)
    exact_mod_cast this
  unfold steps
  rw [min_eq_left (by linarith), if_neg (by linarith), if_neg (by linarith), if_neg (by linarith), if_neg (by linarith),
    if_neg (by linarith)]
  ring

/-- Past 14 the rounded value is held at 14 and only the thresholds count. -/
theorem steps_large {T : ℝ} (h : 14 < T) :
    steps T = 14 + (if 15 < T then 2 else 0) + (if 33 / 2 < T then 1 else 0)
      + (if 35 / 2 < T then 1 else 0) + (if 19 < T then 2 else 0) + (if 22 < T then 4 else 0) := by
  have hc : (15 : ℝ) ≤ (⌈T + 1 / 2⌉ : ℝ) := by
    have : 14 < ⌈T + 1 / 2⌉ := Int.lt_ceil.mpr (by push_cast; linarith)
    exact_mod_cast this
  unfold steps
  rw [min_eq_right (by linarith)]

set_option maxHeartbeats 1000000 in
/-- The choice past 14: between two neighbouring entries the kernel's thresholds are the midpoints. -/
theorem steps_between {T : ℝ} {n : ℕ} (hn : 14 < n) (hn' : n ≤ 20) (hlo : entry (n - 1) < T)
    (hhi : n < 20 → T ≤ entry n) :
    steps T = if entry n - T < T - entry (n - 1) then entry n else entry (n - 1) := by
  obtain ⟨l15, l16, l17, l18, l19, l20⟩ := entry_large
  have l14 : entry 14 = 14 := by rw [entry_small le_rfl]; norm_num
  have hc : n = 15 ∨ n = 16 ∨ n = 17 ∨ n = 18 ∨ n = 19 ∨ n = 20 := by omega
  rcases hc with rfl | rfl | rfl | rfl | rfl | rfl <;>
    norm_num only [l14, l15, l16, l17, l18, l19, l20, forall_true_left, IsEmpty.forall_iff] at hlo hhi ⊢ <;>
    rw [steps_large (by linarith)] <;> split_ifs <;> first | (exfalso; linarith) | norm_num

/-- THE QUANTISER: on magnitudes up to 32 the kernel's choice is the reference's. -/
theorem steps_eq_nearest {T : ℝ} (h0 : 0 ≤ T) : steps T = nearest T := by
  have hle := below_le T
  have hlo : 0 < below T → entry (below T - 1) < T := entry_pred_lt
  have hhi : below T < 20 → T ≤ entry (below T) := le_entry
  unfold nearest
  generalize below T = n at *
  rcases Nat.eq_zero_or_pos n with rfl | hpos
  · have hT : T = 0 := le_antisymm (by simpa [entry_small] using hhi (by norm_num)) h0
    subst hT
    rw [steps_small (by norm_num)]
    norm_num [entry_small]
  by_cases h14 : n ≤ 14
  · have h1 := hlo hpos
    have h2 := hhi (by omega)
    have hcast : ((n - 1 : ℕ) : ℝ) = (n : ℝ) - 1 := by rw [Nat.cast_sub hpos]; norm_num
    rw [entry_small (by omega), hcast] at h1
    rw [entry_small h14] at h2
    have hn : (n : ℝ) ≤ 14 := by exact_mod_cast h14
    rw [steps_small (h2.trans hn), entry_small h14, entry_small (by omega), hcast]
    split_ifs with hd
    · have : ⌈T + 1 / 2⌉ = (n : ℤ) + 1 := Int.ceil_eq_iff.mpr ⟨by push_cast; linarith, by push_cast; linarith⟩
      rw [this]; push_cast; ring
    · have : ⌈T + 1 / 2⌉ = (n : ℤ) := Int.ceil_eq_iff.mpr ⟨by push_cast; linarith, by push_cast; linarith⟩
      rw [this]; push_cast; ring
  · exact steps_between (by omega) hle (hlo hpos) hhi

/-- Past 24 every threshold is crossed. -/
theorem steps_top {T : ℝ} (h : 24 ≤ T) : steps T = 24 := by
  rw [steps_large (by linarith), if_pos (by linarith), if_pos (by linarith), if_pos (by linarith), if_pos (by linarith),
    if_pos (by linarith)]
  norm_num

/-- Holding the magnitude at 32 changes nothing. -/
theorem steps_min (T : ℝ) : steps (min T 32) = steps T := by
  rcases le_total T 32 with h | h
  · rw [min_eq_left h]
  · rw [min_eq_right h, steps_top (by norm_num), steps_top (by linarith)]

end Cert.Quant

end
-- ==== Proof.Scalar.lean ====
/- One element of the two programs over the extended reals. The kernel multiplies the sign of `x` by the codebook entry
   it finds for `|x| · (32 / s)`; the reference clips `x` to the scale, divides by it, looks the magnitude up and passes
   the result straight through. For a positive scale, finite or not, and any `x`, the two are equal. -/
module

public import Idealize.ShloMosaic.Lib.Pointwise
public import proofs.«01_k».proof.Proof.Levels

@[expose] public section

noncomputable section

namespace Cert.Quant

open Idealize.ShloMosaic

/-- The kernel's codebook entry, in units of 1/32, for a scaled magnitude `t`. -/
def codeOf (t : EReal) : EReal :=
  min (Ideal.liftRound Int.floor (t + ((1 / 2 : ℝ) : EReal))
      - if Ideal.liftRound Int.floor (t + ((1 / 2 : ℝ) : EReal)) = t + ((1 / 2 : ℝ) : EReal) then 1 else 0) ((14 : ℝ) : EReal)
    + (if ((15 : ℝ) : EReal) < t then ((2 : ℝ) : EReal) else 0) + (if ((33 / 2 : ℝ) : EReal) < t then 1 else 0)
    + (if ((35 / 2 : ℝ) : EReal) < t then 1 else 0) + (if ((19 : ℝ) : EReal) < t then ((2 : ℝ) : EReal) else 0)
    + (if ((22 : ℝ) : EReal) < t then ((4 : ℝ) : EReal) else 0)

/-- The sign of `x` as the kernel selects it. -/
def signOf (x : EReal) : EReal := if 0 < max x (-x) then (if x < 0 then ((-1 : ℝ) : EReal) else 1) else x

/-- The reference's normalised value: `x` clipped to the scale, over the scale. -/
def normOf (s x : EReal) : EReal := Ideal.div (min s (max (-s) x)) s

/-- The kernel's element. -/
def kernelOf (s x : EReal) : EReal :=
  signOf x * (codeOf (max x (-x) * Ideal.div ((32 : ℝ) : EReal) s) * ((1 / 32 : ℝ) : EReal))

/-- The floor less one where it is exact is the ceiling less one. -/
theorem floor_sub_ite (u : ℝ) : (⌊u⌋ : ℝ) - (if (⌊u⌋ : ℝ) = u then 1 else 0) = (⌈u⌉ : ℝ) - 1 := by
  split_ifs with h
  · have : ⌈u⌉ = ⌊u⌋ := by rw [← h, Int.ceil_intCast, Int.floor_intCast]
    rw [this]
  · have : ⌈u⌉ = ⌊u⌋ + 1 := by
      refine Int.ceil_eq_iff.mpr ⟨?_, ?_⟩
      · push_cast
        have := lt_of_le_of_ne (Int.floor_le u) h
        linarith
      · push_cast
        exact (Int.lt_floor_add_one u).le
    rw [this]
    push_cast
    ring

/-- The lesser and the greater of two real numbers, read as extended reals. -/
theorem coe_min (a b : ℝ) : min (a : EReal) (b : EReal) = ((min a b : ℝ) : EReal) :=
  (EReal.coe_strictMono.monotone.map_min).symm
/-- The greater of two reals is the same number among the extended reals. -/
theorem coe_max (a b : ℝ) : max (a : EReal) (b : EReal) = ((max a b : ℝ) : EReal) :=
  (EReal.coe_strictMono.monotone.map_max).symm

/-- A selected real number, read as an extended real. -/
theorem coe_ite (p : Prop) [Decidable p] (a : ℝ) : (if p then (a : EReal) else 0) = ((if p then a else 0 : ℝ) : EReal) := by
  split_ifs <;> rfl

/-- On a real magnitude the kernel's entry is `steps`. -/
theorem codeOf_coe (T : ℝ) : codeOf (T : EReal) = ((steps T : ℝ) : EReal) := by
  have e1 : (1 : EReal) = ((1 : ℝ) : EReal) := rfl
  unfold codeOf steps
  rw [← EReal.coe_add, Ideal.liftRound_coe]
  simp only [EReal.coe_eq_coe_iff, EReal.coe_lt_coe_iff, e1, coe_ite]
  rw [← EReal.coe_sub, floor_sub_ite, coe_min]
  simp only [← EReal.coe_add]

/-- An infinite magnitude takes the last entry. -/
theorem codeOf_top : codeOf ⊤ = ((24 : ℝ) : EReal) := by
  have e1 : (1 : EReal) = ((1 : ℝ) : EReal) := rfl
  unfold codeOf
  rw [EReal.top_add_coe, Ideal.liftRound_top, if_pos rfl, e1, EReal.top_sub_coe, min_eq_right le_top]
  simp only [EReal.coe_lt_top, if_true]
  simp only [← EReal.coe_add]
  norm_num

/-- The kernel's selected sign is the sign function. -/
theorem signOf_eq (x : EReal) : signOf x = Ideal.sign x := by
  have e1 : (((-1 : ℝ)) : EReal) = -1 := by rw [EReal.coe_neg]; rfl
  unfold signOf
  rw [e1]
  by_cases h : x = 0
  · subst h
    simp [Ideal.sign_zero]
  · rw [if_pos ((Ideal.zero_lt_max_neg_iff x).mpr h)]
    rcases lt_or_gt_of_ne h with hl | hg
    · rw [if_pos hl, Ideal.sign_of_neg hl]
    · rw [if_neg (not_lt.mpr hg.le), Ideal.sign_of_pos hg]

/-- The absolute value of a real number, as the programs take it. -/
theorem coe_abs (y : ℝ) : max (y : EReal) (-(y : EReal)) = ((|y| : ℝ) : EReal) := by
  rw [← EReal.coe_neg, coe_max]
  rfl

/-- Clipping to `r` and dividing by it, on real numbers: the magnitude is the scaled magnitude held at 32, and the sign
    is kept. -/
theorem clip_real {r : ℝ} (hr : 0 < r) (y : ℝ) :
    32 * |min r (max (-r) y) * (1 / r)| = min (|y| * (32 * (1 / r))) 32
      ∧ SignType.sign (min r (max (-r) y) * (1 / r)) = SignType.sign y := by
  have hi : 0 < 1 / r := by positivity
  have hri : r * (1 / r) = 1 := by field_simp
  constructor
  · have e : |min r (max (-r) y)| = min |y| r := by
      rcases le_total y r with h1 | h1 <;> rcases le_total (-r) y with h2 | h2
      · rw [max_eq_right h2, min_eq_right h1, min_eq_left (abs_le.mpr ⟨h2, h1⟩)]
      · rw [max_eq_left h2, min_eq_right (by linarith), abs_neg, abs_of_pos hr,
          min_eq_right (by rw [abs_of_nonpos (by linarith)]; linarith)]
      · rw [max_eq_right h2, min_eq_left h1, abs_of_pos hr, min_eq_right (h1.trans (le_abs_self y))]
      · exact absurd (h1.trans h2) (by linarith)
    rw [abs_mul, abs_of_pos hi, e, min_mul_of_nonneg _ _ hi.le, hri, mul_min_of_nonneg _ _ (by norm_num)]
    congr 1 <;> ring
  · rw [sign_mul, sign_pos hi, mul_one]
    rcases lt_trichotomy y 0 with h | h | h
    · rw [sign_neg h, sign_neg (lt_of_le_of_lt (min_le_right _ _) (max_lt (by linarith) h))]
    · subst h
      rw [max_eq_right (by linarith), min_eq_right hr.le]
    · rw [sign_pos h, sign_pos (lt_min hr (lt_max_of_lt_right h))]

/-- The normalised value is a real number, its sign that of the kernel wherever the kernel's entry is not zero, and the
    kernel's entry is `steps` of its magnitude. -/
theorem normOf_real {s : EReal} (hs : 0 < s) (x : EReal) : ∃ ν : ℝ, normOf s x = (ν : EReal)
    ∧ kernelOf s x = Ideal.sign (ν : EReal) * (((steps (32 * |ν|) : ℝ) : EReal) * ((1 / 32 : ℝ) : EReal)) := by
  unfold normOf kernelOf
  rw [signOf_eq]
  have hz : steps 0 = 0 := by
    rw [steps_small (by norm_num)]
    norm_num
  induction s using EReal.rec with
  | bot => exact absurd hs (by simp)
  | top =>
    refine ⟨0, ?_, ?_⟩
    · simp [Ideal.div]
    · have e : max x (-x) * Ideal.div ((32 : ℝ) : EReal) ⊤ = ((0 : ℝ) : EReal) := by simp [Ideal.div]
      rw [e, codeOf_coe, abs_zero, mul_zero, hz]
      simp
  | coe r =>
    have hr : 0 < r := by exact_mod_cast hs
    have hri : r * (1 / r) = 1 := by field_simp
    have hi : 0 < 1 / r := by positivity
    have h32 : (0 : ℝ) < 32 * (1 / r) := by positivity
    rw [Ideal.div_coe hr.ne', Ideal.div_coe hr.ne', ← EReal.coe_mul]
    have h24 : ((steps (32 * |(1 : ℝ)|) : ℝ) : EReal) = ((24 : ℝ) : EReal) := by
      rw [abs_one, mul_one, steps_top (by norm_num)]
    induction x using EReal.rec with
    | bot =>
      refine ⟨-1, ?_, ?_⟩
      · rw [max_eq_left bot_le, ← EReal.coe_neg, coe_min, min_eq_right (by linarith), ← EReal.coe_mul]
        congr 1
        linarith
      · rw [EReal.neg_bot, max_eq_right bot_le, EReal.top_mul_coe_of_pos h32, codeOf_top, abs_neg, h24]
        congr 1
        rw [Ideal.sign_coe, sign_neg (by norm_num : (-1 : ℝ) < 0)]
        rw [Ideal.sign_of_neg (by simp)]
        simp
    | top =>
      refine ⟨1, ?_, ?_⟩
      · rw [max_eq_right le_top, min_eq_left le_top, ← EReal.coe_mul, hri]
      · rw [max_eq_left (by simp), EReal.top_mul_coe_of_pos h32, codeOf_top, h24]
        congr 1
        rw [Ideal.sign_coe, sign_pos (by norm_num : (0 : ℝ) < 1)]
        rw [Ideal.sign_of_pos (by simp)]
        simp
    | coe y =>
      obtain ⟨h1, h2⟩ := clip_real hr y
      refine ⟨min r (max (-r) y) * (1 / r), ?_, ?_⟩
      · rw [← EReal.coe_neg, coe_max, coe_min, ← EReal.coe_mul]
      · rw [coe_abs, ← EReal.coe_mul, codeOf_coe, h1, steps_min, Ideal.sign_coe, Ideal.sign_coe, h2]

/-- ONE ELEMENT: the kernel's value is the reference's straight-through value `n + (sign n · q − n)`, where `n` is the
    normalised value and `q` the nearest codebook entry to its magnitude. -/
theorem kernelOf_eq {s : EReal} (hs : 0 < s) (x : EReal) : ∃ ν : ℝ, normOf s x = (ν : EReal)
    ∧ kernelOf s x = (ν : EReal) + (Ideal.sign (ν : EReal) * ((nearest (32 * |ν|) / 32 : ℝ) : EReal) - (ν : EReal)) := by
  obtain ⟨ν, hn, hk⟩ := normOf_real hs x
  refine ⟨ν, hn, ?_⟩
  rw [hk, steps_eq_nearest (by positivity), Ideal.sign_coe]
  simp only [← EReal.coe_mul, ← EReal.coe_sub, ← EReal.coe_add]
  congr 1
  ring

end Cert.Quant

end
-- ==== Proof.Words.lean ====
/- The numbers that the programs' bit patterns denote: the kernel's thresholds and factors, and the reference's codebook.
   All of them but one are whole multiples of 1/64, which is decided over the natural numbers. -/
module

public import Idealize.ShloMosaic.Lib.Pointwise
public import proofs.«01_k».proof.Proof.Levels
public import proofs.«01_k».proof.Proof.Gen.ReferenceIdeal

@[expose] public section

noncomputable section

namespace Cert.Quant

open Idealize.ShloMosaic

/-- When an f32 pattern is that of the positive number `n / 64`: the sign clear, the exponent neither extreme, and
    significand times power of two equal to `n / 64`, cleared of denominators. -/
abbrev IsSixtyFourths (w : BitVec 32) (n : ℕ) : Prop :=
  w.extractLsb' 31 1 = 0#1 ∧ (w.extractLsb' 23 8).toNat ≠ 0 ∧ (w.extractLsb' 23 8).toNat ≠ 255
    ∧ (2 ^ 23 + (w.extractLsb' 0 23).toNat) * 2 ^ (w.extractLsb' 23 8).toNat = n * 2 ^ 144

/-- Such a pattern denotes `n / 64`. -/
theorem ofBits_sixtyFourths {w : BitVec 32} {n : ℕ} (h : IsSixtyFourths w n) :
    Ideal.ofBits .f32 w = (((n : ℝ) / 64 : ℝ) : EReal) := by
  obtain ⟨hs, h0, h1, hv⟩ := h
  show Ideal.ieee 8 23 w = _
  unfold Ideal.ieee
  simp only [Nat.reduceAdd, hs, Nat.reducePow, Nat.add_one_sub_one]
  rw [if_neg h1, if_neg h0]
  congr 1
  have hr : ((2 : ℝ) ^ 23 + ((w.extractLsb' 0 23).toNat : ℝ)) * 2 ^ (w.extractLsb' 23 8).toNat = (n : ℝ) * 2 ^ 144 := by
    exact_mod_cast hv
  have he : (2 : ℝ) ^ (((w.extractLsb' 23 8).toNat : ℤ) - (2 ^ (8 - 1) - 1) - (23 : ℕ))
      = 2 ^ (w.extractLsb' 23 8).toNat / 2 ^ 150 := by
    rw [show (((w.extractLsb' 23 8).toNat : ℤ) - (2 ^ (8 - 1) - 1) - (23 : ℕ)) = ((w.extractLsb' 23 8).toNat : ℤ) - (150 : ℕ) by
      norm_num; ring, zpow_sub₀ (by norm_num), zpow_natCast, zpow_natCast]
  rw [he]
  push_cast at hr ⊢
  norm_num at hr ⊢
  linarith

/-- This word is the real number 1/2. -/
theorem w_half : Ideal.ofBits .f32 0x3F000000#32 = ((1 / 2 : ℝ) : EReal) := by
  rw [ofBits_sixtyFourths (n := 32) (by decide)]; norm_num
/-- This word is the real number 32. -/
theorem w_32 : Ideal.ofBits .f32 0x42000000#32 = ((32 : ℝ) : EReal) := by
  rw [ofBits_sixtyFourths (n := 2048) (by decide)]; norm_num
/-- This word is the real number 1/32. -/
theorem w_inv32 : Ideal.ofBits .f32 0x3D000000#32 = ((1 / 32 : ℝ) : EReal) := by
  rw [ofBits_sixtyFourths (n := 2) (by decide)]; norm_num
/-- This word is the real number 14. -/
theorem w_14 : Ideal.ofBits .f32 0x41600000#32 = ((14 : ℝ) : EReal) := by
  rw [ofBits_sixtyFourths (n := 896) (by decide)]; norm_num
/-- This word is the real number 15. -/
theorem w_15 : Ideal.ofBits .f32 0x41700000#32 = ((15 : ℝ) : EReal) := by
  rw [ofBits_sixtyFourths (n := 960) (by decide)]; norm_num
/-- This word is the real number 33/2. -/
theorem w_33half : Ideal.ofBits .f32 0x41840000#32 = ((33 / 2 : ℝ) : EReal) := by
  rw [ofBits_sixtyFourths (n := 1056) (by decide)]; norm_num
/-- This word is the real number 35/2. -/
theorem w_35half : Ideal.ofBits .f32 0x418C0000#32 = ((35 / 2 : ℝ) : EReal) := by
  rw [ofBits_sixtyFourths (n := 1120) (by decide)]; norm_num
/-- This word is the real number 19. -/
theorem w_19 : Ideal.ofBits .f32 0x41980000#32 = ((19 : ℝ) : EReal) := by
  rw [ofBits_sixtyFourths (n := 1216) (by decide)]; norm_num
/-- This word is the real number 22. -/
theorem w_22 : Ideal.ofBits .f32 0x41B00000#32 = ((22 : ℝ) : EReal) := by
  rw [ofBits_sixtyFourths (n := 1408) (by decide)]; norm_num
/-- This word is the real number 2. -/
theorem w_2 : Ideal.ofBits .f32 0x40000000#32 = ((2 : ℝ) : EReal) := by
  rw [ofBits_sixtyFourths (n := 128) (by decide)]; norm_num
/-- This word is the real number 4. -/
theorem w_4 : Ideal.ofBits .f32 0x40800000#32 = ((4 : ℝ) : EReal) := by
  rw [ofBits_sixtyFourths (n := 256) (by decide)]; norm_num
/-- and minus one. -/
theorem w_neg_one : Ideal.ofBits .f32 0xBF800000#32 = ((-1 : ℝ) : EReal) :=
  (IdealRules.sign_bit.ideal_negOnePat .f32).trans (by rw [EReal.coe_neg]; rfl)

/-- The scale's lower bound is positive. -/
theorem w_eps_pos : 0 < Ideal.ofBits .f32 0x358637BD#32 := by
  simp [Ideal.ofBits, Ideal.ieee, -EReal.coe_mul]

/-- The reference's codebook holds the numbers `lev k / 32`. -/
theorem code_at (k : Fin 20) : Ideal.ofBits .f32 (Cert.ReferenceIdeal.lit0 k) = (((lev k : ℝ) / 32 : ℝ) : EReal) := by
  have key : ∀ k : Fin 20, k ≠ 0 → IsSixtyFourths (Cert.ReferenceIdeal.lit0 k) (lev k * 2) := by decide
  by_cases h : k = 0
  · subst h
    rw [show Cert.ReferenceIdeal.lit0 0 = 0x00000000#32 from rfl, Ideal.ofBits_zero_f32]
    simp [lev]
  · rw [ofBits_sixtyFourths (key k h)]
    congr 1
    push_cast
    ring

end Cert.Quant

end
-- ==== Proof.Reference.lean ====
/- What the reference computes, read at one index: the scale, the normalised value, how many codebook entries lie below a
   magnitude, the codebook lookups and the nearest entry. `L` is the memory the reference starts from. -/
module

public import proofs.«01_k».proof.Proof.Gen.ReferenceIdeal.Run
public import Idealize.ShloMosaic.Lib.Pointwise
public import Idealize.ShloMosaic.Lib.IndicatorCount
public import Idealize.ShloMosaic.Lib.StableHlo.Predicate
public import proofs.«01_k».proof.Proof.Words
public import proofs.«01_k».proof.Proof.Scalar

@[expose] public section

set_option maxRecDepth 16384

noncomputable section

namespace Cert.Quant

open Idealize.ShloMosaic

/-- The scale of the learned parameter `a`: its softplus, held above a small positive number. -/
def scaleOf (a : EReal) : EReal :=
  max (max a 0 + Ideal.log1p (Ideal.exp (-(max a (-a))))) (Ideal.ofBits .f32 0x358637BD#32)

/-- The scale is positive. -/
theorem scaleOf_pos (a : EReal) : 0 < scaleOf a := lt_max_of_lt_right w_eps_pos

end Cert.Quant

namespace Cert.RefSide

open Idealize.ShloMosaic Idealize.ShloMosaic.TcCoe Idealize.SL.Sem
open Cert.ReferenceIdeal Cert.ReferenceIdeal.Gen Cert.ReferenceIdeal.Value
open Cert.Quant

variable (L : Valuation τ sig (Elt Ideal))

/-- The reference's scale. -/
theorem scale_at : res_main_v1 L ix0 = scaleOf (L (Proc.devRef .tc main_arg1) ix0) := by
  pointwise [res_main_v1, res_main_call0_v1, res_main_call0_cst]
  rw [if_neg (fun h => h rfl)]
  rfl

/-- The reference's normalised value. -/
theorem norm_at (a : Fin 2) (b c : Fin 4096) : res_main_v5 L (ix3 a b c)
    = normOf (scaleOf (L (Proc.devRef .tc main_arg1) ix0)) (L (Proc.devRef .tc main_arg0) (ix3 a b c)) := by
  have h := scale_at L
  pointwise [res_main_v5]
  rw [h]
  rfl

/-- The position of an index of the input in the flattened array. -/
abbrev flat (a : Fin 2) (b c : Fin 4096) : Fin 33554432 := ⟨a.val * 16777216 + b.val * 4096 + c.val, by omega⟩

/-- The flattened magnitudes. -/
theorem mag_at (a : Fin 2) (b c : Fin 4096) (ν : ℝ) (h : res_main_v5 L (ix3 a b c) = (ν : EReal)) :
    res_main_v8 L (ix1 (flat a b c)) = ((32 * |ν| / 32 : ℝ) : EReal) := by
  pointwise [res_main_v8]
  have e : (ix3 ⟨(flat a b c).val / 16777216, by omega⟩ ⟨(flat a b c).val / 4096 % 4096, by omega⟩
      ⟨(flat a b c).val % 4096, by omega⟩ : S2x4096x4096.Idx) = ix3 a b c := by
    congr 1 <;> refine Fin.ext ?_ <;> dsimp only [flat] <;> omega
  refine (congrArg (fun i => FloatOps.absf (F := Ideal) (φ := .f32) (res_main_v5 L i)) e).trans ?_
  rw [h, Ideal.absf_def, coe_abs]
  congr 1
  ring

/-- The codebook, read at a position. -/
theorem book_at (k : Fin 20) : res_main_cst L (ix1 k) = (((lev k : ℝ) / 32 : ℝ) : EReal) := by
  have e : S20.rowMajor (ix1 k) = k := Fin.ext (Shape.rowMajor_val_one _)
  show Ideal.ofBits .f32 (lit0 (S20.rowMajor (ix1 k))) = _
  rw [e, code_at]

/-- A sum along the second axis, read as a fold. -/
theorem sum_at (z : IVec S33554432x20 32) (p : Fin 33554432) :
    Host.reduce IntOp.addi z (constantI S_ 32 0#32) reducesTo_S33554432x20_S33554432_d1 h_S_ (ix1 p)
      = Finset.univ.fold IntOp.addi 0#32 fun k : Fin 20 => z (ix2 p k) := by
  pointwise

/-- The insertion point of a real magnitude, as a word: the number of codebook entries below it. -/
theorem count_at (p : Fin 33554432) (T : ℝ) (h : res_main_v8 L (ix1 p) = ((T / 32 : ℝ) : EReal)) :
    res_main_v15 L (ix1 p) = BitVec.ofNat 32 (below T) := by
  unfold res_main_v15
  refine (sum_at _ p).trans ?_
  have hb : ∀ k : Fin 20, res_main_cst L (ix1 k) = (((lev k : ℝ) / 32 : ℝ) : EReal) := book_at L
  pointwise
  rw [IndicatorCount.fold_addi_setWidth_eq_card]
  congr 1
  unfold below
  congr 1
  refine Finset.filter_congr fun k _ => ?_
  rw [h, hb k]
  have e : ((lev k : ℝ) / 32 < T / 32) ↔ (lev k : ℝ) < T := div_lt_div_iff_of_pos_right (by norm_num)
  rw [← e, ← EReal.coe_lt_coe_iff]
  by_cases hd : (((lev k : ℝ) / 32 : ℝ) : EReal) < ((T / 32 : ℝ) : EReal) <;> simp only [hd, decide_true, decide_false] <;> decide

/-- The word of a position clipped to the codebook's range, -/
theorem hi_word : ∀ n : ℕ, n ≤ 20 → IntOp.minsi 19#32 (IntOp.maxsi 0#32 (BitVec.ofNat 32 n)) = BitVec.ofNat 32 (min n 19) := by
  decide
/-- of the position before it, clipped likewise, -/
theorem lo_word : ∀ n : ℕ, n ≤ 20 →
    IntOp.minsi 19#32 (IntOp.maxsi 0#32 (IntOp.subi (BitVec.ofNat 32 n) 1#32)) = BitVec.ofNat 32 (min (n - 1) 19) := by
  decide
/-- of a position in range, which the lookup's treatment of negative positions leaves alone, -/
theorem wrap_word : ∀ k : ℕ, k ≤ 19 →
    Scalar.select (IntOp.cmpi .slt (BitVec.ofNat 32 k) 0#32) (IntOp.addi (BitVec.ofNat 32 k) 20#32) (BitVec.ofNat 32 k)
      = BitVec.ofNat 32 k := by
  decide
/-- and which passes the lookup's range check -/
theorem range_word : ∀ k : ℕ, k ≤ 19 → IntOp.andi (IntOp.cmpi .sge (BitVec.ofNat 32 k) 0#32)
    (IntOp.cmpi .sle (BitVec.ofNat 32 k) 19#32) = 1#1 := by
  decide
/-- and is read back unchanged. -/
theorem read_word : ∀ k : ℕ, k ≤ 19 → min (BitVec.ofNat 32 k).toInt.toNat (20 - 1) = k := by
  decide

/-- The positions as the lookups take them: the insertion point, -/
theorem hi_at (p : Fin 33554432) (n : ℕ) (hn : n ≤ 20) (h : res_main_v15 L (ix1 p) = BitVec.ofNat 32 n) :
    res_main_v16 L (ix1 p) = BitVec.ofNat 32 (min n 19) ∧ res_main_call4_v5 L (ix2 p 0) = BitVec.ofNat 32 (min n 19) := by
  have e : res_main_v16 L (ix1 p) = BitVec.ofNat 32 (min n 19) := by
    pointwise [res_main_v16]
    rw [h]
    exact hi_word n hn
  refine ⟨e, ?_⟩
  pointwise [res_main_call4_v5]
  rw [e]
  exact wrap_word _ (by omega)

/-- the position before it, -/
theorem lo_at (p : Fin 33554432) (n : ℕ) (hn : n ≤ 20) (h : res_main_v15 L (ix1 p) = BitVec.ofNat 32 n) :
    res_main_v19 L (ix1 p) = BitVec.ofNat 32 (min (n - 1) 19)
      ∧ res_main_call5_v5 L (ix2 p 0) = BitVec.ofNat 32 (min (n - 1) 19) := by
  have e : res_main_v19 L (ix1 p) = BitVec.ofNat 32 (min (n - 1) 19) := by
    pointwise [res_main_v19]
    rw [h]
    exact lo_word n hn
  refine ⟨e, ?_⟩
  pointwise [res_main_call5_v5]
  rw [e]
  exact wrap_word _ (by omega)

/-- and the chosen one. -/
theorem chosen_at (p : Fin 33554432) (k : ℕ) (hk : k ≤ 19) (h : res_main_v25 L (ix1 p) = BitVec.ofNat 32 k) :
    res_main_call7_v5 L (ix2 p 0) = BitVec.ofNat 32 k := by
  pointwise [res_main_call7_v5]
  rw [h]
  exact wrap_word _ hk

/-- The range check of a lookup at positions `z`, -/
abbrev inRange (z : IVec S33554432x1 32) : IVec S33554432 1 :=
  Host.reduce IntOp.andi (andi (cmpi .sge z (broadcastInDim S33554432x1 ![] bcast_S_S33554432x1 (constantI S_ 32 0#32)))
    (cmpi .sle z (broadcastInDim S33554432x1 ![0, 1] bcast_S1x1_S33554432x1_0_1
      (broadcastInDim S1x1 ![1] bcast_S1_S1x1_1 (constantI S1 32 19#32))))) (constantI S_ 1 1#1)
    reducesTo_S33554432x1_S33554432_d1 h_S_

/-- and the lookup: the table's entry, or an unused pattern out of range. -/
abbrev lookup (tbl : FVec Ideal S20 .f32) (z : IVec S33554432x1 32) : FVec Ideal S33554432 .f32 :=
  select (inRange z) (Host.gather gather_S20_S33554432x1_S33554432_n_0_n_n_0_1_1 tbl z)
    (broadcastInDim S33554432 ![] bcast_S_S33554432 (constant S_ .f32 0x7FC00000#32))

/-- A lookup at a position in range is the table's entry there. -/
theorem lookup_at (tbl : FVec Ideal S20 .f32) (z : IVec S33554432x1 32) (p : Fin 33554432) (k : Fin 20)
    (h : z (ix2 p 0) = BitVec.ofNat 32 k.val) : lookup tbl z (ix1 p) = tbl (ix1 k) := by
  have hr : inRange z (ix1 p) = 1#1 := by
    unfold inRange
    pointwise
    rw [show (Finset.univ : Finset (Fin 1)) = {0} from rfl, Finset.fold_singleton, h, range_word _ (by omega)]
    rfl
  have hg := StableHlo.Predicate.gather_take gather_S20_S33554432x1_S33554432_n_0_n_n_0_1_1 rfl rfl rfl rfl tbl z p (by norm_num)
  have e1 : (Shape.Idx.ofFin p : S33554432.Idx) = ix1 p := funext fun a => by fin_cases a; rfl
  have e2 : (StableHlo.Predicate.ixP p : S33554432x1.Idx) = ix2 p 0 := funext fun a => by fin_cases a <;> rfl
  have e3 : (Shape.Idx.ofFin (⟨min (z (StableHlo.Predicate.ixP p)).toInt.toNat (20 - 1), by omega⟩ : Fin 20) : S20.Idx) = ix1 k := by
    have hv : min (z (StableHlo.Predicate.ixP p)).toInt.toNat (20 - 1) = k.val := by
      rw [e2, h, read_word _ (by omega)]
    exact funext fun a => by fin_cases a; exact Fin.ext hv
  show Scalar.select (inRange z (ix1 p)) (Host.gather gather_S20_S33554432x1_S33554432_n_0_n_n_0_1_1 tbl z (ix1 p)) _ = _
  rw [hr, ← e1, hg, e3]
  rfl

/-- The choice between two positions by the distances to their entries. -/
theorem choose_at (f A B : FVec Ideal S33554432 .f32) (h l : IVec S33554432 32) (p : Fin 33554432) :
    select (cmpf .ogt (subf f A) (subf B f)) h l (ix1 p)
      = if B (ix1 p) - f (ix1 p) < f (ix1 p) - A (ix1 p) then h (ix1 p) else l (ix1 p) := by
  pointwise

/-- THE NEAREST ENTRY: for a magnitude `T / 32` the reference looks up `nearest T / 32`. -/
theorem nearest_at (p : Fin 33554432) (T : ℝ) (h : res_main_v8 L (ix1 p) = ((T / 32 : ℝ) : EReal)) :
    lookup (res_main_cst L) (res_main_call7_v5 L) (ix1 p) = ((nearest T / 32 : ℝ) : EReal) := by
  have hn := below_le T
  have hc := count_at L p T h
  obtain ⟨h16, hhi⟩ := hi_at L p (below T) hn hc
  obtain ⟨h19, hlo⟩ := lo_at L p (below T) hn hc
  have ehi := (lookup_at (res_main_cst L) _ p ⟨min (below T) 19, by omega⟩ hhi).trans (book_at L _)
  have elo := (lookup_at (res_main_cst L) _ p ⟨min (below T - 1) 19, by omega⟩ hlo).trans (book_at L _)
  have e25 := choose_at (res_main_v8 L) (lookup (res_main_cst L) (res_main_call5_v5 L))
    (lookup (res_main_cst L) (res_main_call4_v5 L)) (res_main_v16 L) (res_main_v19 L) p
  rw [ehi, elo, h, h16, h19] at e25
  have ez : ∃ k : Fin 20, res_main_v25 L (ix1 p) = BitVec.ofNat 32 k.val ∧ ((lev k : ℝ) / 32) = nearest T / 32 := by
    unfold res_main_v25
    rw [e25]
    simp only [← EReal.coe_sub, EReal.coe_lt_coe_iff]
    have hi : ((lev ⟨min (below T) 19, by omega⟩ : ℕ) : ℝ) = entry (below T) := rfl
    have hl : ((lev ⟨min (below T - 1) 19, by omega⟩ : ℕ) : ℝ) = entry (below T - 1) := rfl
    unfold nearest
    by_cases hd : entry (below T) - T < T - entry (below T - 1)
    · rw [if_pos (by rw [hi, hl]; linarith), if_pos hd]
      exact ⟨⟨min (below T) 19, by omega⟩, rfl, by rw [hi]⟩
    · rw [if_neg (by rw [hi, hl]; intro hc; exact hd (by linarith)), if_neg hd]
      exact ⟨⟨min (below T - 1) 19, by omega⟩, rfl, by rw [hl]⟩
  obtain ⟨k, hk, hv⟩ := ez
  rw [lookup_at (res_main_cst L) _ p k (chosen_at L p k.val (by omega) hk), book_at L k, hv]

/-- The reference's first result, from the normalised values and the looked-up magnitudes. -/
theorem result_at (v : FVec Ideal S2x4096x4096 .f32) (q : FVec Ideal S33554432 .f32) (a : Fin 2) (b c : Fin 4096) :
    addf v (subf (mulf (Host.sign v) (shapeCast S2x4096x4096 q shapeCasts_S33554432_S2x4096x4096)) v) (ix3 a b c)
      = v (ix3 a b c) + (Ideal.sign (v (ix3 a b c)) * q (ix1 (flat a b c)) - v (ix3 a b c)) := by
  pointwise

/-- THE REFERENCE'S FIRST RESULT is the kernel's element, index by index. -/
theorem value_at (a : Fin 2) (b c : Fin 4096) :
    addf (F := Ideal) (φ := .f32) (res_main_v5 L) (subf (mulf (Host.sign (res_main_v5 L))
        (shapeCast S2x4096x4096 (lookup (res_main_cst L) (res_main_call7_v5 L)) shapeCasts_S33554432_S2x4096x4096))
        (res_main_v5 L)) (ix3 a b c)
      = kernelOf (scaleOf (L (Proc.devRef .tc main_arg1) ix0)) (L (Proc.devRef .tc main_arg0) (ix3 a b c)) := by
  obtain ⟨ν, hν, hk⟩ := kernelOf_eq (scaleOf_pos (L (Proc.devRef .tc main_arg1) ix0)) (L (Proc.devRef .tc main_arg0) (ix3 a b c))
  have hn := (norm_at L a b c).trans hν
  refine (result_at _ _ a b c).trans ?_
  rw [nearest_at L (flat a b c) _ (mag_at L a b c ν hn), hn, hk]

end Cert.RefSide
end
-- ==== Proof.KernelBlock.lean ====
module

public import proofs.«01_k».proof.Proof.Gen.KernelIdeal.Frame
public import proofs.«01_k».proof.Proof.Scalar
public import proofs.«01_k».proof.Proof.Words
public import proofs.«01_k».proof.Proof.Reference
public import Idealize.ShloMosaic.Lib.Pointwise
public import Idealize.ShloMosaic.Lib.WholeRead

/-! What one grid point of the kernel computes: the two blocks its body stores, as functions of the scalar `alpha`
    and of the block of `x` it was handed. -/

@[expose] public section

set_option maxRecDepth 16384

noncomputable section
namespace Cert.KernelSide
open Idealize.ShloMosaic Idealize.ShloMosaic.TcCoe Idealize.SL.Sem
open Cert.KernelIdeal Cert.KernelIdeal.Gen Cert.Quant

/-- The kernel's scalar scale, as its body spells it, is the scale of the mathematics. -/
theorem pay2_eq (a : EReal) : k0_pay2 (F := Ideal) a = scaleOf a := by
  pointwise [k0_pay2]
  rw [zero_sub]
  rfl

/-- The stored scale block holds the scale at its one place. -/
theorem scale_at (a : EReal) (i : S1x1.Idx) : k0_pay3 (F := Ideal) a i = scaleOf a := by
  rw [← pay2_eq]
  rfl

/-- The stored block of results, at one place: the kernel's scalar function of the scale and of the block's element
    at that place. -/
theorem pay_at (a : EReal) (x : FVec Ideal S256x4096 .f32) (p : Fin 256) (q : Fin 4096) :
    k0_pay1 (F := Ideal) (k0_pay4 x) (k0_pay5 a x) (k0_pay6 a x) (Scalar.ofBits (F := Ideal) .f32 0x418C0000#32) (ix2 p q)
      = kernelOf (scaleOf a) (x (ix2 p q)) := by
  rw [← pay2_eq]
  pointwise [k0_pay1, k0_pay4, k0_pay5, k0_pay6]
  simp only [w_half, w_32, w_inv32, w_14, w_15, w_33half, w_35half, w_19, w_22, w_2, w_4, w_neg_one, Ideal.absf_def]
  rfl

/-- The offsets at which the body loads and stores its two-axis blocks are zero. -/
theorem offsets2 : (![0, 0] : Fin 2 → Nat) = fun _ => 0 := funext fun a => by fin_cases a <;> rfl

/-- A load of a whole two-axis block reads the block. -/
theorem whole_read {M : Memref sig .tc .vmem S256x4096 .f32} (h : M.IsWhole) (X : S256x4096.Idx → Elt Ideal .f32) :
    View.readAt (Elt Ideal) M.view (Rect.unit ![0, 0] S256x4096.size inb_S256x4096_S256x4096_0_0).toLoadRect (h.unread X) = X :=
  (funext fun j => Memref.IsWhole.readAt_unread (Val := Elt Ideal) h X _ j).trans (View.ld_unit_zero (Val := Elt Ideal) offsets2 inb_S256x4096_S256x4096_0_0 X)

/-- A load of the one scalar of a one-element block reads that scalar. -/
theorem scalar_read {M : Memref sig .tc .smem S1 .f32} (h : M.IsWhole) (X : S1.Idx → Elt Ideal .f32)
    (x : (Rect.unit ![0] S1.size inb_S1_S1_0).toLoadRect.shape.Idx) :
    View.readAt (Elt Ideal) M.view (Rect.unit ![0] S1.size inb_S1_S1_0).toLoadRect (h.unread X) x = X (ix1 0) :=
  (Memref.IsWhole.readAt_unread (Val := Elt Ideal) h X _ x).trans (congrArg X (funext fun a => by fin_cases a; exact Subsingleton.elim (α := Fin 1) _ _))

variable (m : (ℓ : Loc nD τ sig) → Buf (Elt Ideal) ℓ)

/-- Point `t` leaves the scale in the second output's block. -/
theorem scale_block (c : Dev nD) (t : Fin cfg0.N) (i : S1x1.Idx) :
    (outsAt0 m c t).2 i = scaleOf (iblk m c 0 t (ix1 0)) := by
  unfold outsAt0 out0_A_3
  dsimp only
  rw [View.read_writes_eq_canon _ _ _ (cover0_A_3 c _ _ _ _ _ _ _ _ _ _ _)]
  unfold kernelRun0_A
  dsimp only
  rw [View.canon_unit_zero offsets2]
  sl_unfold_run_names
  rw [scalar_read, scale_at]

/-- Point `t` leaves in the first output's block, place by place, the kernel's scalar function of the scale and of the
    input block's element at that place. -/
theorem value_block (c : Dev nD) (t : Fin cfg0.N) (p : Fin 256) (q : Fin 4096) :
    (outsAt0 m c t).1 (ix2 p q) = kernelOf (scaleOf (iblk m c 0 t (ix1 0))) (iblk m c 1 t (ix2 p q)) := by
  unfold outsAt0 out0_A_2
  dsimp only
  rw [View.read_writes_eq_canon _ _ _ (cover0_A_2 c _ _ _ _ _ _ _ _ _ _ _)]
  unfold kernelRun0_A
  dsimp only
  rw [View.canon_unit_zero offsets2]
  sl_unfold_run_names
  rw [scalar_read, whole_read]
  exact pay_at _ _ p q

end Cert.KernelSide
end
-- ==== Proof.KernelArray.lean ====
module

public import proofs.«01_k».proof.Proof.KernelBlock
public import Idealize.ShloMosaic.Lib.Pipeline.ValueKit.Geometry

/-! What the kernel's two result arrays hold after its thirty-two grid points, and what the host program around the
    kernel returns. -/

@[expose] public section

set_option maxRecDepth 16384

noncomputable section
namespace Cert.KernelSide
open Idealize.ShloMosaic Idealize.ShloMosaic.TcCoe Idealize.SL.Sem
open Cert.KernelIdeal Cert.KernelIdeal.Gen Cert.Quant

variable (m : (ℓ : Loc nD τ sig) → Buf (Elt Ideal) ℓ) (ρ : Dev nD → PrngReg)

/-- Every point reads the same one scalar, the one the kernel was handed. -/
theorem alpha_block (c : Dev nD) (t : Fin cfg0.N) : iblk m c 0 t (ix1 0) = V m c main_v1 (ix1 0) := by
  unfold iblk
  exact congrArg (V m c main_v1) (funext fun a => by fin_cases a; exact Subsingleton.elim (α := Fin 1) _ _)

/-- Point `t` reads its block of `x` at the very places of the array where it writes its block of the result. -/
theorem x_block (c : Dev nD) (t : Fin cfg0.N) (j : S256x4096.Idx) :
    iblk m c 1 t j = V m c main_v0 ((win0_2.blk t).view.emb j) := rfl

/-- The whole result array as one function of the two arrays the kernel was handed. -/
abbrev result (c : Dev nD) : FVec Ideal S8192x4096 .f32 :=
  fun i => kernelOf (scaleOf (V m c main_v1 (ix1 0))) (V m c main_v0 i)

/-- The blocks the points write fill the result array, which ends holding `result`. -/
theorem result_array (c : Dev nD) : (dats m 0 c).arrAt 2 cfg0.N = result m c := by
  refine (dats m 0 c).arrAt_eq_of_covers 2 _ (by decide +kernel) fun t hf y => ?_
  blk_simp
  rw [after0_2]
  obtain ⟨p, q, rfl⟩ : ∃ (p : Fin 256) (q : Fin 4096), y = ix2 p q := ⟨y 0, y 1, (ix2_eta y).symm⟩
  refine (value_block m c t p q).trans ?_
  rw [alpha_block, x_block]

/-- The one-place scale array ends holding the scale. -/
theorem scale_array (c : Dev nD) :
    (dats m 0 c).arrAt 3 cfg0.N = fun _ => scaleOf (V m c main_v1 (ix1 0)) := by
  refine (dats m 0 c).arrAt_eq_of_covers 3 _ (by decide +kernel) fun t hf y => ?_
  blk_simp
  rw [after0_3]
  refine (scale_block m c t y).trans ?_
  rw [alpha_block]

/-- The windows of the kernel stand on four different arrays. -/
theorem arrays_distinct : Function.Injective (Pipeline.arrRef spec0) := by decide

/-- What the kernel was handed as `x`: the argument, its two leading axes joined. -/
theorem x_in (c : Dev nD) :
    V m c main_v0 = shapeCast S8192x4096 (m ((c : Thread nD τ).loc main_arg0)) shapeCasts_S2x4096x4096_S8192x4096 := by
  unfold V V0
  unfold hostOps0
  simp only [List.flatten_cons, List.flatten_nil, List.append_nil]
  after_results_simp
  rfl

/-- What the kernel was handed as `alpha`: the argument's one scalar. -/
theorem alpha_in (c : Dev nD) :
    V m c main_v1 = shapeCast S1 (m ((c : Thread nD τ).loc main_arg1)) shapeCasts_S_S1 := by
  unfold V V0
  unfold hostOps0
  simp only [List.flatten_cons, List.flatten_nil, List.append_nil]
  after_results_simp
  rfl

/-- What the program returns first: the result array, its leading axis split in two. -/
theorem out_value (c : Dev nD) :
    Pipeline.afterTail₀ cfgs (dats m) 0 (V0 m) [hostOps1] c main_v3
      = shapeCast S2x4096x4096 (result m c) shapeCasts_S8192x4096_S2x4096x4096 := by
  rw [← result_array m c]
  unfold Pipeline.afterTail₀
  unfold hostOps1
  simp only [List.flatten_cons, List.flatten_nil, List.append_nil]
  after_results_simp
  rw [show Pipeline.withArrays (cfgs 0).spec c (V0 m c) (fun w => (dats m 0 c).arrAt w (cfgs 0).N)
      (Proc.tc.devRef main_v2_0) = (dats m 0 c).arrAt 2 cfg0.N from
    Pipeline.withArrays_arr spec0 arrays_distinct c (V0 m c) (fun w => (dats m 0 c).arrAt w (cfgs 0).N) 2]
  rfl

/-- What the program returns second: the scale. -/
theorem out_scale (c : Dev nD) :
    Pipeline.afterTail₀ cfgs (dats m) 0 (V0 m) [hostOps1] c main_v4
      = fun _ => scaleOf (V m c main_v1 (ix1 0)) := by
  unfold Pipeline.afterTail₀
  unfold hostOps1
  simp only [List.flatten_cons, List.flatten_nil, List.append_nil]
  after_results_simp
  rw [show Pipeline.withArrays (cfgs 0).spec c (V0 m c) (fun w => (dats m 0 c).arrAt w (cfgs 0).N)
      (Proc.tc.devRef main_v2_1) = (dats m 0 c).arrAt 3 cfg0.N from
    Pipeline.withArrays_arr spec0 arrays_distinct c (V0 m c) (fun w => (dats m 0 c).arrAt w (cfgs 0).N) 3,
    scale_array]
  rfl

/-- The scalar handed to the kernel is the argument's. -/
theorem alpha_at (c : Dev nD) : V m c main_v1 (ix1 0) = m ((c : Thread nD τ).loc main_arg1) ix0 := by
  rw [alpha_in]
  exact congrArg (m ((c : Thread nD τ).loc main_arg1)) (funext fun a => a.elim0)

/-- Joining the two leading axes before the kernel and splitting them after it changes no place: the program's first
    result is, place by place, the kernel's scalar function of the scale and of `x` at that place. -/
theorem out_at (c : Dev nD) (i : S2x4096x4096.Idx) :
    Pipeline.afterTail₀ cfgs (dats m) 0 (V0 m) [hostOps1] c main_v3 i
      = kernelOf (scaleOf (m ((c : Thread nD τ).loc main_arg1) ix0)) (m ((c : Thread nD τ).loc main_arg0) i) := by
  rw [out_value, ← alpha_at m c]
  show kernelOf _ (V m c main_v0 _) = _
  rw [x_in]
  exact congrArg (kernelOf _) (congrFun (shapeCast_shapeCast _ shapeCasts_S2x4096x4096_S8192x4096
    shapeCasts_S8192x4096_S2x4096x4096) i)

/-- The program's run: what the two results hold at its end, and the arguments as they were. -/
theorem run : θ_run defs (onTc (τ := τ) (main (F := Ideal))) ⟨m, fun _ => 0, ρ⟩ fun r => ∀ c : Dev nD,
      r.2.mem ((c.tc : Thread nD τ).loc main_v3)
        = (fun i => kernelOf (scaleOf (m ((c : Thread nD τ).loc main_arg1) ix0)) (m ((c : Thread nD τ).loc main_arg0) i))
      ∧ r.2.mem ((c.tc : Thread nD τ).loc main_v4) = (fun _ => scaleOf (m ((c : Thread nD τ).loc main_arg1) ix0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (funext (out_at m c)),
     ((h c).2 main_v4 (Pipeline.mem_restRefs_of main_v4 (by decide) (by decide))).trans
       ((out_scale m c).trans (by rw [alpha_at])),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelSide
end
-- ==== Proof.Equation.lean ====
module

public import proofs.«01_k».proof.Defs
public import proofs.«01_k».proof.Proof.KernelArray
public import proofs.«01_k».proof.Proof.Reference
public import Idealize.ShloMosaic.Lib.Quiescent

/-! The equation: kernel and reference, started from the same `x` and `alpha`, end with the same two results. -/

@[expose] public section

set_option maxRecDepth 16384

noncomputable section
namespace Cert.RefSide
open Idealize.ShloMosaic Idealize.ShloMosaic.TcCoe Idealize.SL.Sem
open Cert.ReferenceIdeal Cert.ReferenceIdeal.Gen Cert.ReferenceIdeal.Value Cert.Quant

variable (m : (ℓ : Loc nD τ sig) → Buf (Elt Ideal) ℓ) (ρ : Dev nD → PrngReg)

/-- The reference's run: its first result is, place by place, the same scalar function of the scale and of `x` that the
    kernel evaluates; its second is the scale; its arguments are as they were. -/
theorem run : θ_run defs (onTc (τ := τ) (main (F := Ideal))) ⟨m, fun _ => 0, ρ⟩ fun r => ∀ c : Dev nD,
      r.2.mem ((c.tc : Thread nD τ).loc main_v30)
        = (fun i => kernelOf (scaleOf (m ((c : Thread nD τ).loc main_arg1) ix0)) (m ((c : Thread nD τ).loc main_arg0) i))
      ∧ r.2.mem ((c.tc : Thread nD τ).loc main_v1) = (fun _ => scaleOf (m ((c : Thread nD τ).loc main_arg1) ix0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨h0, h1, h2, h3⟩ := h c
    refine ⟨h0.trans (funext fun i => ?_), h1.trans (funext fun i => ?_), h2, h3⟩
    · obtain ⟨a, b, d, rfl⟩ : ∃ (a : Fin 2) (b d : Fin 4096), i = ix3 a b d := ⟨i 0, i 1, i 2, (ix3_eta i).symm⟩
      exact value_at (StableHlo.launchContents m c) a b d
    · rw [show i = ix0 from funext fun a => a.elim0]
      exact scale_at (StableHlo.launchContents m c))
    (Cert.ReferenceIdeal.Value.run m ρ)

/-- The reference runs, leaves its arguments unchanged and every counter at zero. -/
theorem unchanged : θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2.2, sem_eq_zero_of_no_sems (by decide) r.2⟩)
    (Cert.ReferenceIdeal.Value.run m ρ)

end Cert.RefSide

namespace Cert.Proof
open Idealize.ShloMosaic Idealize.ShloMosaic.TcCoe Idealize.SL.Sem Cert.Quant

/-- With exact operations on the extended reals, kernel and reference return the same quantized values and the same
    scale, whatever `x` and `alpha` are. -/
theorem same_results : Cert.algebraic_KernelIdeal_ReferenceIdeal := by
  intro m g m' g' _ hargs
  refine ⟨_, _, Cert.KernelSide.run m g, (θ_run _ _ _).mono (fun r h c => ?_) (Cert.RefSide.run m' g')⟩
  obtain ⟨h0, h1, h2, h3⟩ := h c
  refine ⟨h0.trans ?_, h1.trans ?_, h2, h3⟩
  · rw [(hargs c).1, (hargs c).2]
    rfl
  · rw [(hargs c).2]
    rfl

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of this certificate: the kernel, its reading over the extended reals and the reference all run, end with
    their arguments as they were and their counters at zero; the one rewritten operation of the kernel is rewritten
    soundly; and kernel and reference return the same two results. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.RefSide.unchanged m ρ,
  IdealRules.sign_bit.statement _ _,
  same_results⟩

end Cert.Proof

end
